-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_5) = v0 c
          ∧ r.2.mem ((c.tc : Thread Cert.ReferenceIdeal.nD Cert.ReferenceIdeal.τ).loc Cert.ReferenceIdeal.main_v3_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x128 : Shape := ⟨2, ![16384, 128]⟩
abbrev S50x16 : Shape := ⟨2, ![50, 16]⟩
abbrev S50x128 : Shape := ⟨2, ![50, 128]⟩
abbrev S16x128 : Shape := ⟨2, ![16, 128]⟩
abbrev S_ : Shape := ⟨0, ![]⟩
abbrev S50 : Shape := ⟨1, ![50]⟩
abbrev S1x128 : Shape := ⟨2, ![1, 128]⟩

class Facts : Prop where
  reducesTo_S50x16_S50_d1 : S50x16.ReducesTo [1] S50
  h_S_ : 0 < S_.numel
  bcast_S_S50 : S_.BroadcastsInDim S50 (![] : Fin 0 → Fin S50.rank)
  reducesTo_S50_S_d0 : S50.ReducesTo [0] S_
  bcast_S_S16x128 : S_.BroadcastsInDim S16x128 (![] : Fin 0 → Fin S16x128.rank)
  reducesTo_S16x128_S_d0_1 : S16x128.ReducesTo [0, 1] S_
  bcast_S_S16384x128 : S_.BroadcastsInDim S16384x128 (![] : Fin 0 → Fin S16384x128.rank)
  slices_S50x128_S1x128_0_0 : S50x128.Slices ![0, 0] S1x128
  bcast_S_S1x128 : S_.BroadcastsInDim S1x128 (![] : Fin 0 → Fin S1x128.rank)
  bcast_S1x128_S16384x128_0_1 : S1x128.BroadcastsInDim S16384x128 (![0, 1] : Fin 2 → Fin S16384x128.rank)
  reducesTo_S16384x128_S_d0_1 : S16384x128.ReducesTo [0, 1] S_

variable [Facts]

def fn_part1 {F : FTy → Type} [FloatOps F] (main_v9 : IVec S_ 1) (main_v12 : IVec S16384x128 1) (main_v16 : IVec S1x128 1) : IVec S_ 1 :=
  let main_v17 : IVec S16384x128 1 := broadcastInDim S16384x128 ![0, 1] bcast_S1x128_S16384x128_0_1 main_v16
  let main_v18 : IVec S16384x128 1 := ori main_v12 main_v17
  let main_c_5 : IVec S_ 1 := constantI S_ 1 1#1
  let main_v19 : IVec S_ 1 := (fun x v => Host.reduce IntOp.andi x v reducesTo_S16384x128_S_d0_1 h_S_) main_v18 main_c_5
  let main_v20 : IVec S_ 1 := andi main_v9 main_v19
  main_v20

def fn {F : FTy → Type} [FloatOps F] (main_arg0 : FVec F S16384x128 .f32) (main_arg1 : FVec F S50x16 .f32) (main_arg2 : FVec F S50x128 .f32) (main_arg3 : FVec F S16x128 .f32) (main_arg4 : FVec F S16x128 .f32) : IVec S_ 1 :=
  let main_cst : FVec F S_ .f32 := constant S_ .f32 0xFF800000#32
  let main_v0 : FVec F S50 .f32 := (fun x v => Host.reduce FloatOps.maximumf x v reducesTo_S50x16_S50_d1 h_S_) main_arg1 main_cst
  let main_v1 : FVec F S50 .f32 := Host.absf main_v0
  let main_cst_0 : FVec F S_ .f32 := constant S_ .f32 0x7F800000#32
  let main_v2 : FVec F S50 .f32 := broadcastInDim S50 ![] bcast_S_S50 main_cst_0
  let main_v3 : IVec S50 1 := cmpf .olt main_v1 main_v2
  let main_c : IVec S_ 1 := constantI S_ 1 1#1
  let main_v4 : IVec S_ 1 := (fun x v => Host.reduce IntOp.andi x v reducesTo_S50_S_d0 h_S_) main_v3 main_c
  let main_v5 : FVec F S16x128 .f32 := Host.absf main_arg3
  let main_cst_1 : FVec F S_ .f32 := constant S_ .f32 0x7F800000#32
  let main_v6 : FVec F S16x128 .f32 := broadcastInDim S16x128 ![] bcast_S_S16x128 main_cst_1
  let main_v7 : IVec S16x128 1 := cmpf .olt main_v5 main_v6
  let main_c_2 : IVec S_ 1 := constantI S_ 1 1#1
  let main_v8 : IVec S_ 1 := (fun x v => Host.reduce IntOp.andi x v reducesTo_S16x128_S_d0_1 h_S_) main_v7 main_c_2
  let main_v9 : IVec S_ 1 := andi main_v4 main_v8
  let main_v10 : FVec F S16384x128 .f32 := Host.absf main_arg0
  let main_cst_3 : FVec F S_ .f32 := constant S_ .f32 0x7F800000#32
  let main_v11 : FVec F S16384x128 .f32 := broadcastInDim S16384x128 ![] bcast_S_S16384x128 main_cst_3
  let main_v12 : IVec S16384x128 1 := cmpf .olt main_v10 main_v11
  let main_v13 : FVec F S1x128 .f32 := (extractStridedSlice S1x128 ![0, 0] · slices_S50x128_S1x128_0_0) main_arg2
  let main_v14 : FVec F S1x128 .f32 := Host.absf main_v13
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v9 main_v12 main_v16
-- ==== Kernel.lean ====
abbrev S16384x128 : Shape := ⟨2, ![16384, 128]⟩
abbrev S50x16 : Shape := ⟨2, ![50, 16]⟩
abbrev S50x128 : Shape := ⟨2, ![50, 128]⟩
abbrev S16x128 : Shape := ⟨2, ![16, 128]⟩
abbrev S2048x128 : Shape := ⟨2, ![2048, 128]⟩
abbrev S50 : Shape := ⟨1, ![50]⟩
abbrev S50x1 : Shape := ⟨2, ![50, 1]⟩
abbrev S1x128 : Shape := ⟨2, ![1, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S50x16, .f32⟩
  | .hbm, ⟨2, _⟩ => ⟨S50x128, .f32⟩
  | .hbm, ⟨3, _⟩ => ⟨S16x128, .f32⟩
  | .hbm, ⟨4, _⟩ => ⟨S16x128, .f32⟩
  | .hbm, ⟨5, _⟩ => ⟨S16384x128, .f32⟩
  | .local _ .vmem, ⟨0, _⟩ => ⟨S50x16, .f32⟩
  | .local _ .vmem, ⟨1, _⟩ => ⟨S50x128, .f32⟩
  | .local _ .vmem, ⟨2, _⟩ => ⟨S16x128, .f32⟩
  | .local _ .vmem, ⟨3, _⟩ => ⟨S16x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S50x128, .bf16⟩
  | .local _ .vmem, ⟨9, _⟩ => ⟨S50x128, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S50x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S50x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x128 : Shape := ⟨2, ![16384, 128]⟩
abbrev S50x16 : Shape := ⟨2, ![50, 16]⟩
abbrev S50x128 : Shape := ⟨2, ![50, 128]⟩
abbrev S16x128 : Shape := ⟨2, ![16, 128]⟩
abbrev S50 : Shape := ⟨1, ![50]⟩
abbrev S_ : Shape := ⟨0, ![]⟩
abbrev S50x1 : Shape := ⟨2, ![50, 1]⟩
abbrev S1 : Shape := ⟨1, ![1]⟩
abbrev S1x1 : Shape := ⟨2, ![1, 1]⟩
abbrev S1x128 : Shape := ⟨2, ![1, 128]⟩
abbrev S128 : Shape := ⟨1, ![128]⟩
abbrev S1x16 : Shape := ⟨2, ![1, 16]⟩
abbrev S16 : Shape := ⟨1, ![16]⟩

abbrev nBuf : Space → Nat
  | .hbm => 77
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S50x16, .f32⟩
  | .hbm, ⟨2, _⟩ => ⟨S50x128, .f32⟩
  | .hbm, ⟨3, _⟩ => ⟨S16x128, .f32⟩
  | .hbm, ⟨4, _⟩ => ⟨S16x128, .f32⟩
  | .hbm, ⟨5, _⟩ => ⟨S50, .i32⟩
  | .hbm, ⟨6, _⟩ => ⟨S_, .i32⟩
  | .hbm, ⟨7, _⟩ => ⟨S50, .i32⟩
  | .hbm, ⟨8, _⟩ => ⟨S50, .i1⟩
  | .hbm, ⟨9, _⟩ => ⟨S_, .i32⟩
  | .hbm, ⟨10, _⟩ => ⟨S50, .i32⟩
  | .hbm, ⟨11, _⟩ => ⟨S50, .i32⟩
  | .hbm, ⟨12, _⟩ => ⟨S50, .i32⟩
  | .hbm, ⟨13, _⟩ => ⟨S50x1, .i32⟩
  | .hbm, ⟨14, _⟩ => ⟨S1, .i32⟩
  | .hbm, ⟨15, _⟩ => ⟨S_, .i32⟩
  | .hbm, ⟨16, _⟩ => ⟨S50x1, .i32⟩
  | .hbm, ⟨17, _⟩ => ⟨S50x1, .i1⟩
  | .hbm, ⟨18, _⟩ => ⟨S1x1, .i32⟩
  | .hbm, ⟨19, _⟩ => ⟨S50x1, .i32⟩
  | .hbm, ⟨20, _⟩ => ⟨S50x1, .i1⟩
  | .hbm, ⟨21, _⟩ => ⟨S50x1, .i1⟩
  | .hbm, ⟨22, _⟩ => ⟨S_, .i1⟩
  | .hbm, ⟨23, _⟩ => ⟨S50, .i1⟩
  | .hbm, ⟨24, _⟩ => ⟨S50x128, .f32⟩
  | .hbm, ⟨25, _⟩ => ⟨S50x128, .i1⟩
  | .hbm, ⟨26, _⟩ => ⟨S_, .f32⟩
  | .hbm, ⟨27, _⟩ => ⟨S50x128, .f32⟩
  | .hbm, ⟨28, _⟩ => ⟨S50x128, .f32⟩
  | .hbm, ⟨29, _⟩ => ⟨S_, .f32⟩
  | .hbm, ⟨30, _⟩ => ⟨S50x16, .f32⟩
  | .hbm, ⟨31, _⟩ => ⟨S_, .i32⟩
  | .hbm, ⟨32, _⟩ => ⟨S50x128, .f32⟩
  | .hbm, ⟨33, _⟩ => ⟨S50x16, .f32⟩
  | .hbm, ⟨34, _⟩ => ⟨S16x128, .f32⟩
  | .hbm, ⟨35, _⟩ => ⟨S16x128, .f32⟩
  | .hbm, ⟨36, _⟩ => ⟨S_, .i32⟩
  | .hbm, ⟨37, _⟩ => ⟨S16384x128, .f32⟩
  | .hbm, ⟨38, _⟩ => ⟨S50x16, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S1x128, .f32⟩
  | .hbm, ⟨43, _⟩ => ⟨S128, .f32⟩
  | .hbm, ⟨44, _⟩ => ⟨S_, .i32⟩
  | .hbm, ⟨45, _⟩ => ⟨S1x16, .f32⟩
  | .hbm, ⟨46, _⟩ => ⟨S16, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S16, .f32⟩
  | .hbm, ⟨59, _⟩ => ⟨S16, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S16384x128, .f32⟩
  | .hbm, ⟨64, _⟩ => ⟨S16384x128, .f32⟩
  | .hbm, ⟨65, _⟩ => ⟨S1x128, .f32⟩
  | .hbm, ⟨66, _⟩ => ⟨S16384x128, .f32⟩
  | .hbm, ⟨67, _⟩ => ⟨S16384x128, .f32⟩
  | .hbm, ⟨68, _⟩ => ⟨S1x128, .f32⟩
  | .hbm, ⟨69, _⟩ => ⟨S16384x128, .f32⟩
  | .hbm, ⟨70, _⟩ => ⟨S16384x128, .f32⟩
  | .hbm, ⟨71, _⟩ => ⟨S16384x128, .f32⟩
  | .hbm, ⟨72, _⟩ => ⟨S1x16, .f32⟩
  | .hbm, ⟨73, _⟩ => ⟨S_, .i32⟩
  | .hbm, ⟨74, _⟩ => ⟨S50x16, .f32⟩
  | .hbm, ⟨75, _⟩ => ⟨S_, .i32⟩
  | .hbm, ⟨76, _⟩ => ⟨S_, .i32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_c : Ref sig .tc := ⟨.hbm, 31, rfl⟩
abbrev main_v3_0 : Ref sig .tc := ⟨.hbm, 32, rfl⟩
abbrev main_v3_1 : Ref sig .tc := ⟨.hbm, 33, rfl⟩
abbrev main_v3_2 : Ref sig .tc := ⟨.hbm, 34, rfl⟩
abbrev main_v3_3 : Ref sig .tc := ⟨.hbm, 35, rfl⟩
abbrev main_v3_4 : Ref sig .tc := ⟨.hbm, 36, rfl⟩
abbrev main_v3_5 : Ref sig .tc := ⟨.hbm, 37, rfl⟩
abbrev main_v3_6 : Ref sig .tc := ⟨.hbm, 38, rfl⟩
abbrev main_while0c_c_6 : Ref sig .tc := ⟨.hbm, 39, rfl⟩
abbrev main_while0c_v4 : Ref sig .tc := ⟨.hbm, 40, rfl⟩
abbrev main_while0b_call1_c : Ref sig .tc := ⟨.hbm, 41, rfl⟩
abbrev main_while0b_call1_v0 : Ref sig .tc := ⟨.hbm, 42, rfl⟩
abbrev main_while0b_v4 : Ref sig .tc := ⟨.hbm, 43, rfl⟩
abbrev main_while0b_call2_c : Ref sig .tc := ⟨.hbm, 44, rfl⟩
abbrev main_while0b_call2_v0 : Ref sig .tc := ⟨.hbm, 45, rfl⟩
abbrev main_while0b_v5 : Ref sig .tc := ⟨.hbm, 46, rfl⟩
abbrev main_while0b_cst_6 : Ref sig .tc := ⟨.hbm, 47, rfl⟩
abbrev main_while0b_v6 : Ref sig .tc := ⟨.hbm, 48, rfl⟩
abbrev main_while0b_cst_7 : Ref sig .tc := ⟨.hbm, 49, rfl⟩
abbrev main_while0b_v7 : Ref sig .tc := ⟨.hbm, 50, rfl⟩
abbrev main_while0b_v8 : Ref sig .tc := ⟨.hbm, 51, rfl⟩
abbrev main_while0b_v9 : Ref sig .tc := ⟨.hbm, 52, rfl⟩
abbrev main_while0b_v10 : Ref sig .tc := ⟨.hbm, 53, rfl⟩
abbrev main_while0b_v11 : Ref sig .tc := ⟨.hbm, 54, rfl⟩
abbrev main_while0b_cst_8 : Ref sig .tc := ⟨.hbm, 55, rfl⟩
abbrev main_while0b_v12 : Ref sig .tc := ⟨.hbm, 56, rfl⟩
abbrev main_while0b_v13 : Ref sig .tc := ⟨.hbm, 57, rfl⟩
abbrev main_while0b_v14 : Ref sig .tc := ⟨.hbm, 58, rfl⟩
abbrev main_while0b_v15 : Ref sig .tc := ⟨.hbm, 59, rfl⟩
abbrev main_while0b_v16 : Ref sig .tc := ⟨.hbm, 60, rfl⟩
abbrev main_while0b_v17 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_v21 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_call3_v0 : Ref sig .tc := ⟨.hbm, 72, rfl⟩
abbrev main_while0b_call3_c : Ref sig .tc := ⟨.hbm, 73, rfl⟩
abbrev main_while0b_v28 : Ref sig .tc := ⟨.hbm, 74, rfl⟩
abbrev main_while0b_c_9 : Ref sig .tc := ⟨.hbm, 75, rfl⟩
abbrev main_while0b_v29 : Ref sig .tc := ⟨.hbm, 76, rfl⟩

abbrev nD : Nat := 1
abbrev τ : Topo := Topo.v7x

variable {F : FTy → Type} [FloatOps F]

abbrev main_while0_count : Scf.Loop 32 := ⟨0#32, 50#32, 1#32⟩
-- ==== Proof.Weights.lean ====
/-
  The extended-real arithmetic of the claim, free of both programs. One row of selection logits becomes softmax
  weights (`share`), the weights mix the 16 rows of a table (`mix`), and one step of the recurrence is an affine map
  followed by a hyperbolic tangent. The kernel folds the step's shift into the affine map's constant
  (`x * w + (e * w + b)`); the reference adds it first (`(x + e) * w + b`). The two agree where `w` and one of `x` and `e`
  are real (`shift_folded`, `shift_folded_either`), and every quantity that must be real is (`share_real`, `mix_real`,
  `tanh_real`).
-/
module

public import Idealize.ShloMosaic.PureOps.Ideal
public import Idealize.ShloMosaic.PureOps.Ideal.Laws

@[expose] public section

noncomputable section

namespace Cert.Proof.Weights

open Idealize.ShloMosaic

/-- An extended real that is a real number. -/
def IsReal (x : EReal) : Prop := ∃ r : ℝ, x = (r : EReal)

/-- Neither infinity means a real number. -/
theorem real_of_ne {x : EReal} (h1 : x ≠ ⊥) (h2 : x ≠ ⊤) : IsReal x :=
  ⟨x.toReal, (EReal.coe_toReal h2 h1).symm⟩

/-- The product of two real numbers is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is one, and it is the real sum. -/
theorem sum_coe {n : ℕ} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- A finite sum of real numbers is one. -/
theorem sum_real {n : ℕ} {f : Fin n → EReal} (h : ∀ k, IsReal (f k)) : IsReal (∑ k, f k) := by
  choose g hg using h
  exact ⟨∑ k, g k, by rw [← sum_coe]; exact Finset.sum_congr rfl fun k _ => hg k⟩

/-- The hyperbolic tangent of any extended real is a real number. -/
theorem tanh_real (x : EReal) : IsReal (Ideal.tanh x) := by
  induction x with
  | bot => exact ⟨-1, by simp⟩
  | top => exact ⟨1, by simp⟩
  | coe r => exact ⟨Real.tanh r, rfl⟩

/-- The kernel's affine step is the reference's where the state and the scale are real numbers; the shift `e` and the
    offset `b` may be infinite. -/
theorem shift_folded {x w : EReal} (hx : IsReal x) (hw : IsReal w) (e b : EReal) :
    x * w + (e * w + b) = (x + e) * w + b := by
  obtain ⟨x, rfl⟩ := hx
  obtain ⟨w, rfl⟩ := hw
  rw [← add_assoc]
  congr 1
  induction e with
  | coe e => rw [← EReal.coe_add, ← EReal.coe_mul, ← EReal.coe_mul, ← EReal.coe_mul, ← EReal.coe_add, add_mul]
  | bot =>
    rw [EReal.add_bot]
    rcases lt_trichotomy w 0 with h | h | h
    · rw [EReal.bot_mul_coe_of_neg h, ← EReal.coe_mul, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, ← EReal.coe_mul, EReal.coe_add_top]

/-- The same where the scale and one of the state and the shift are real numbers. -/
theorem shift_folded_either {x e w : EReal} (h : IsReal x ∨ IsReal e) (hw : IsReal w) (b : EReal) :
    x * w + (e * w + b) = (x + e) * w + b := by
  rcases h with hx | he
  · exact shift_folded hx hw e b
  · rw [add_left_comm, shift_folded he hw x b, add_comm e x]

/-- The value both programs start a maximum from. -/
abbrev least : EReal := Ideal.ofBits .f32 0xFF800000#32

/-- That value is the bottom. -/
theorem least_eq : least = ⊥ := by simp [least, Ideal.ofBits, Ideal.ieee]

/-- The largest of one row's 16 logits, as both programs compute it. -/
def peak (p : Fin 16 → EReal) : EReal := max least (Finset.univ.fold max least p)

/-- One row's softmax weights: the exponential of a logit less the row's largest, over the sum of these. -/
def share (p : Fin 16 → EReal) (k : Fin 16) : EReal :=
  Ideal.div (Ideal.exp (p k - peak p)) (∑ l, Ideal.exp (p l - peak p))

/-- A table's 16 entries mixed by the softmax weights of one row of logits. -/
def mix (p t : Fin 16 → EReal) : EReal := ∑ k, share p k * t k

/-- The largest of one row's logits is a real number. A logit may then be the bottom, but not every one. -/
def RealPeak (p : Fin 16 → EReal) : Prop := IsReal (Finset.univ.fold max least p)

/-- A row's `peak` is its largest logit. -/
theorem peak_eq (p : Fin 16 → EReal) : peak p = Finset.univ.fold max least p := by
  unfold peak; rw [least_eq, bot_sup_eq]

/-- A logit is at most the row's largest. -/
theorem le_peak (p : Fin 16 → EReal) (k : Fin 16) : p k ≤ peak p := by
  rw [peak_eq]; exact (Finset.le_fold_max _).2 (Or.inr ⟨k, Finset.mem_univ k, le_rfl⟩)

/-- Where the largest logit is real, some logit is it. -/
theorem exists_peak {p : Fin 16 → EReal} (h : RealPeak p) : ∃ k, p k = peak p := by
  by_contra hn
  push Not at hn
  have hlt : Finset.univ.fold max least p < peak p := by
    refine (Finset.fold_max_lt _).2 ⟨?_, fun k _ => lt_of_le_of_ne (le_peak p k) (hn k)⟩
    obtain ⟨s, hs⟩ := h
    rw [peak_eq, hs, least_eq]
    exact EReal.bot_lt_coe s
  rw [peak_eq] at hlt
  exact lt_irrefl _ hlt

/-- The exponential of a logit less the row's largest is a nonnegative real number, and 1 for the largest. -/
theorem exp_real {p : Fin 16 → EReal} (h : RealPeak p) (k : Fin 16) :
    ∃ r : ℝ, Ideal.exp (p k - peak p) = (r : EReal) ∧ 0 ≤ r ∧ (p k = peak p → r = 1) := by
  have hk := le_peak p k
  obtain ⟨s, hs⟩ : IsReal (peak p) := by rw [peak_eq]; exact h
  rw [hs] at hk ⊢
  induction hp : p k with
  | bot => exact ⟨0, by simp, le_rfl, fun e => absurd e (EReal.bot_ne_coe s)⟩
  | top => exact absurd (hp ▸ hk) (not_le.mpr (EReal.coe_lt_top s))
  | coe r =>
    refine ⟨Real.exp (r - s), by rw [← EReal.coe_sub, Ideal.exp_coe], (Real.exp_pos _).le, fun e => ?_⟩
    rw [EReal.coe_injective e, sub_self, Real.exp_zero]

/-- The softmax weights of a row whose largest logit is real are real numbers: the sum of the exponentials is a positive
    real. -/
theorem share_real {p : Fin 16 → EReal} (h : RealPeak p) (k : Fin 16) : IsReal (share p k) := by
  choose g hg h0 h1 using exp_real h
  unfold share
  simp only [hg]
  rw [sum_coe]
  obtain ⟨l, hl⟩ := exists_peak h
  have hpos : (0 : ℝ) < ∑ l, g l :=
    Finset.sum_pos' (fun l _ => h0 l) ⟨l, Finset.mem_univ l, by rw [h1 l hl]; exact one_pos⟩
  rw [Ideal.div_coe hpos.ne']
  exact ⟨_, (EReal.coe_mul _ _).symm⟩

/-- A real table mixed by such weights is a real number. -/
theorem mix_real {p t : Fin 16 → EReal} (hp : RealPeak p) (ht : ∀ k, IsReal (t k)) : IsReal (mix p t) :=
  sum_real fun k => (share_real hp k).mul (ht k)

/-- The kernel's recurrence: `n` steps of scale `w`, constant `c` and `tanh`, from `x`. -/
def folded (w c : Fin 50 → EReal) (x : EReal) : (n : ℕ) → n ≤ 50 → EReal
  | 0, _ => x
  | n + 1, h => Ideal.tanh (folded w c x n (Nat.le_of_succ_le h) * w ⟨n, h⟩ + c ⟨n, h⟩)

/-- The reference's recurrence: `n` steps of shift `e`, scale `w`, offset `b` and `tanh`, from `x`. -/
def stepped (e w b : Fin 50 → EReal) (x : EReal) : (n : ℕ) → n ≤ 50 → EReal
  | 0, _ => x
  | n + 1, h => Ideal.tanh ((stepped e w b x n (Nat.le_of_succ_le h) + e ⟨n, h⟩) * w ⟨n, h⟩ + b ⟨n, h⟩)

/-- The two recurrences agree under real scales from a real start, or from any start whose first shift is real, the
    kernel's constant being `e * w + b`: every later state is a value of `tanh`, so a real number. -/
theorem folded_eq_stepped (e w b : Fin 50 → EReal) {x : EReal} (hx : IsReal x ∨ IsReal (e 0))
    (hw : ∀ t, IsReal (w t)) :
    ∀ (n : ℕ) (h : n ≤ 50), folded w (fun t => e t * w t + b t) x n h = stepped e w b x n h
  | 0, _ => rfl
  | 1, _ => congrArg Ideal.tanh (shift_folded_either hx (hw 0) (b 0))
  | n + 2, h => by
    have hs : IsReal (stepped e w b x (n + 1) (Nat.le_of_succ_le h)) := tanh_real _
    rw [folded, folded_eq_stepped e w b hx hw (n + 1), shift_folded hs (hw _)]
    rfl

end Cert.Proof.Weights

end
-- ==== Proof.Finite.lean ====
/-
  What the precondition `finite_inputs` says of the arguments: each row's largest logit and every entry of the table of
  scales is a real number, and of each state and its first shift one is.
-/
module

public import proofs.«01_k».proof.Proof.Weights
public import proofs.«01_k».proof.Pre_finite_inputs
public import Idealize.ShloMosaic.Lib.Pointwise
public import Idealize.ShloMosaic.Lib.ReduceAll
public import Idealize.ShloMosaic.Lib.Pipeline.ValueKit

@[expose] public section

set_option maxRecDepth 16384

noncomputable section

namespace Cert.Pre_finite_inputs

open Idealize.ShloMosaic
open Cert.Proof.Weights

/-- The shape facts the precondition states. -/
theorem facts : Facts := by
  constructor <;> decide +kernel

variable [Facts]
open Facts

/-- An extended real whose absolute value is below infinity is a real number. -/
theorem real_of_abs_lt {x : EReal} (h : Ideal.cmp .olt (max x (-x)) (Ideal.ofBits .f32 0x7F800000#32) = 1#1) :
    IsReal x := by
  have hx : max x (-x) < Ideal.ofBits .f32 0x7F800000#32 := by
    by_contra hn
    exact absurd h (by simp [Ideal.cmp, hn])
  rw [show Ideal.ofBits .f32 0x7F800000#32 = ⊤ by simp [Ideal.ofBits, Ideal.ieee]] at hx
  refine real_of_ne (fun e => ?_) (fun e => ?_)
  · exact absurd hx (by simp [e])
  · exact absurd hx (by simp [e])

/-- An array all of whose entries have absolute values below infinity holds real numbers. -/
theorem real_of_all {s : Shape} {axes : List (Fin s.rank)} (x : FVec Ideal s .f32)
    (hb : S_.BroadcastsInDim s (![] : Fin 0 → Fin s.rank)) (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : IsReal (x i) := by
  haveI : Subsingleton S_.Idx := ⟨fun a b => funext fun k => k.elim0⟩
  exact real_of_abs_lt (Host.reduce_andi_all _ _ _ _ _ h i)

/-- Under the precondition each row's largest logit and the scales are real numbers, and of each state and its first
    shift one is. -/
theorem real_args (x : FVec Ideal S16384x128 .f32) (p : FVec Ideal S50x16 .f32) (e : FVec Ideal S50x128 .f32)
    (W B : FVec Ideal S16x128 .f32) (h : fn x p e W B = fun _ => 1#1) :
    (∀ r d, IsReal (x (ix2 r d)) ∨ IsReal (e (ix2 0 d))) ∧ (∀ t, RealPeak fun l => p (ix2 t l)) ∧ ∀ i, IsReal (W i) := by
  haveI : Subsingleton S_.Idx := ⟨fun a b => funext fun k => k.elim0⟩
  have hj := congrFun h (Shape.Idx.first h_S_)
  obtain ⟨h01, h2⟩ := IntOp.andi_eq_one.mp hj
  obtain ⟨h0, h1⟩ := IntOp.andi_eq_one.mp h01
  refine ⟨fun r d => ?_, fun t => ?_, real_of_all W _ _ _ h1⟩
  · have hi := Host.reduce_andi_all _ _ _ _ _ h2 (ix2 r d)
    refine (IntOp.ori_eq_one.mp hi).imp real_of_abs_lt fun he => ?_
    have hr : ∀ y : IVec S1x128 1, broadcastInDim S16384x128 ![0, 1] bcast_S1x128_S16384x128_0_1 y (ix2 r d)
        = y (ix2 0 d) := fun y => by pointwise []
    have hs : extractStridedSlice S1x128 ![0, 0] e slices_S50x128_S1x128_0_0 (ix2 0 d) = e (ix2 0 d) := by
      pointwise []
    rw [← hs]
    exact real_of_abs_lt ((hr _).symm.trans he)
  · have hm : (Host.reduce FloatOps.maximumf p (constant S_ .f32 0xFF800000#32) reducesTo_S50x16_S50_d1 h_S_
        : FVec Ideal S50 .f32) (ix1 t) = Finset.univ.fold max least fun l => p (ix2 t l) := by pointwise []
    unfold RealPeak
    rw [← hm]
    exact real_of_all _ _ _ _ h0 (ix1 t)

end Cert.Pre_finite_inputs

end
-- ==== Proof.KernelBlock.lean ====
/-
  What the kernel's stored values are at an index: the scales and constants the first grid point writes to scratch,
  and one output block as 50 steps of the recurrence from the state block.
-/
module

public import proofs.«01_k».proof.Proof.Weights
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen
open Idealize.ShloMosaic
open Cert.Proof.Weights

/-- Row `t` of the kernel's softmax is the softmax weights of row `t` of the logits. -/
theorem softmax_at (p : Vec Ideal S50x16 .f32) (t : Fin 50) (k : Fin 16) :
    k0_pay2 (F := Ideal) p (ix2 t k) = share (fun l => p (ix2 t l)) k := by
  pointwise [k0_pay2]
  rfl

/-- The scale of step `t` in lane `d`: the scale table's lane `d` mixed by the step's weights. -/
theorem scale_at (p : Vec Ideal S50x16 .f32) (W : Vec Ideal S16x128 .f32) (t : Fin 50) (d : Fin 128) :
    k0_pay4 (F := Ideal) p W (ix2 t d) = mix (fun l => p (ix2 t l)) (fun l => W (ix2 l d)) := by
  pointwise [k0_pay4, k0_pay3]
  simp only [softmax_at]
  rfl

/-- The constant of step `t` in lane `d`: the step's shift times its scale, plus the mixed offset. -/
theorem const_at (p : Vec Ideal S50x16 .f32) (W B : Vec Ideal S16x128 .f32) (e : Vec Ideal S50x128 .f32)
    (t : Fin 50) (d : Fin 128) :
    k0_pay5 (F := Ideal) p W B e (ix2 t d)
      = e (ix2 t d) * mix (fun l => p (ix2 t l)) (fun l => W (ix2 l d))
        + mix (fun l => p (ix2 t l)) (fun l => B (ix2 l d)) := by
  pointwise [k0_pay5, k0_pay3]
  simp only [softmax_at]
  rfl

/-- One output block from the scratch's scales `w` and constants `c` and the state block `x`: the body's 50 steps,
    each part's value handed to the next. -/
def blockOut {F : FTy → Type} [FloatOps F] (w c : Vec F S50x128 .bf16) (x : Vec F S2048x128 .f32) : FVec F S2048x128 .f32 :=
  let x1 := k0_pay7 w c (k0_pay6 w c x)
  let x2 := k0_pay9 w c x1 (k0_pay8 w)
  let x3 := k0_pay11 w c x2 (k0_pay10 c)
  let x4 := k0_pay13 w c x3 (k0_pay12 w)
  let x5 := k0_pay15 w c x4 (k0_pay14 c)
  let x6 := k0_pay17 w c x5 (k0_pay16 w)
  let x7 := k0_pay19 w c x6 (k0_pay18 c)
  let x8 := k0_pay21 w c x7 (k0_pay20 w)
  k0_pay1 w c x8 (k0_pay22 c)

/-- At an index the output block is the 50-step recurrence of that lane's scales and constants. -/
theorem block_at (w c : Vec Ideal S50x128 .bf16) (x : Vec Ideal S2048x128 .f32) (r : Fin 2048) (d : Fin 128) :
    blockOut (F := Ideal) w c x (ix2 r d)
      = folded (fun t => w (ix2 t d)) (fun t => c (ix2 t d)) (x (ix2 r d)) 50 (le_refl 50) := by
  pointwise [blockOut, k0_pay1, k0_pay6, k0_pay7, k0_pay8, k0_pay9, k0_pay10, k0_pay11, k0_pay12, k0_pay13, k0_pay14,
    k0_pay15, k0_pay16, k0_pay17, k0_pay18, k0_pay19, k0_pay20, k0_pay21, k0_pay22]
  rfl

end Cert.KernelIdeal.Block

end
-- ==== Proof.KernelArray.lean ====
/-
  What the kernel's result array holds. The first grid point fills the scratch with the scales and constants of the
  whole argument tables; no later point writes it, so every point reads the same scratch (`scratch_eq`). Every block is
  then the recurrence from its own 2048 states, and the eight blocks are the array (`result_eq`).
-/
module

public import proofs.«01_k».proof.Proof.KernelBlock
public import proofs.«01_k».proof.Proof.Gen.KernelIdeal.Value
public import Idealize.ShloMosaic.Lib.Pipeline.ReadBack
public import Idealize.ShloMosaic.Lib.Pipeline.ValueKit

@[expose] public section

set_option maxRecDepth 16384

noncomputable section

namespace Cert.KernelIdeal.Block

open Cert.KernelIdeal Cert.KernelIdeal.Gen Cert.KernelIdeal.Value
open Idealize.ShloMosaic Idealize.ShloMosaic.TcCoe Idealize.SL.Sem
open Cert.Proof.Weights

section Scratch

variable {F : FTy → Type} [FloatOps F] (m : (ℓ : Loc nD τ sig) → Buf (Elt F) ℓ)

/-- The states, argument 0. -/
def states (c : Dev nD) : Vec F S16384x128 .f32 := m ((c : Thread nD τ).loc main_arg0)
/-- The selection logits, argument 1. -/
def logits (c : Dev nD) : Vec F S50x16 .f32 := m ((c : Thread nD τ).loc main_arg1)
/-- The shifts, argument 2. -/
def shifts (c : Dev nD) : Vec F S50x128 .f32 := m ((c : Thread nD τ).loc main_arg2)
/-- The table of scales, argument 3. -/
def scales (c : Dev nD) : Vec F S16x128 .f32 := m ((c : Thread nD τ).loc main_arg3)
/-- The table of offsets, argument 4. -/
def offsets (c : Dev nD) : Vec F S16x128 .f32 := m ((c : Thread nD τ).loc main_arg4)

/-- Every window's block index at every grid point: the four tables stay at their one block, the states and the result
    move one block down per point. -/
theorem idx : ∀ t : Fin cfg0.N, win0_0.index t = ![0, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The logits' block is the whole argument at every grid point. -/
theorem blk_logits (c : Dev nD) (t : Fin cfg0.N) : iblk m c 0 t = logits m c := by
  funext j; blk_ext [iblk, V, logits, idx t]
/-- The shifts' block is the whole argument at every grid point. -/
theorem blk_shifts (c : Dev nD) (t : Fin cfg0.N) : iblk m c 1 t = shifts m c := by
  funext j; blk_ext [iblk, V, shifts, idx t]
/-- The scale table's block is the whole argument at every grid point. -/
theorem blk_scales (c : Dev nD) (t : Fin cfg0.N) : iblk m c 2 t = scales m c := by
  funext j; blk_ext [iblk, V, scales, idx t]
/-- The offset table's block is the whole argument at every grid point. -/
theorem blk_offsets (c : Dev nD) (t : Fin cfg0.N) : iblk m c 3 t = offsets m c := by
  funext j; blk_ext [iblk, V, offsets, idx t]

/-- The scales the first grid point writes. -/
def scaleRows (c : Dev nD) : Vec F S50x128 .bf16 := k0_pay4 (logits m c) (scales m c)
/-- The constants the first grid point writes. -/
def constRows (c : Dev nD) : Vec F S50x128 .bf16 := k0_pay5 (logits m c) (scales m c) (offsets m c) (shifts m c)

/-- The first grid point fills the scratch and computes its block from what it filled in. -/
theorem point_first (c : Dev nD) (t : Fin cfg0.N) (h : t.val % 8 = 0) :
    outsAt0 m c t.val t.isLt
      = (blockOut (scaleRows m c) (constRows m c) (iblk m c 4 t), scaleRows m c, constRows m c) := by
  rw [outsAt0_A m c t h, scaleRows, constRows, ← blk_logits m c t, ← blk_scales m c t, ← blk_offsets m c t,
    ← blk_shifts m c t]
  refine Prod.ext ?_ (Prod.ext ?_ ?_)
  · frame_out; rfl
  · frame_out
  · frame_out

/-- A later grid point keeps the scratch and computes its block from it. -/
theorem point_later (c : Dev nD) (t : Fin cfg0.N) (h : ¬t.val % 8 = 0) (w k : Vec F S50x128 .bf16)
    (hp : (outsAt0 m c (t.val - 1) (by omega)).2 = (w, k)) :
    outsAt0 m c t.val t.isLt = (blockOut w k (iblk m c 4 t), w, k) := by
  rw [outsAt0_B m c t h, hp]
  refine Prod.ext ?_ rfl
  frame_out
  rw [read_unread_whole, read_unread_whole]
  rfl

/-- What every grid point leaves: its block computed from the first point's scales and constants, and these. -/
theorem point_eq (c : Dev nD) : ∀ (n : ℕ) (hn : n < cfg0.N),
    outsAt0 m c n hn
      = (blockOut (scaleRows m c) (constRows m c) (iblk m c 4 ⟨n, hn⟩), scaleRows m c, constRows m c)
  | 0, hn => point_first m c ⟨0, hn⟩ rfl
  | n + 1, hn => by
    have h8 : n + 1 < 8 := lt_of_lt_of_eq hn N_0
    refine point_later m c ⟨n + 1, hn⟩ (by show ¬(n + 1) % 8 = 0; omega) _ _ ?_
    exact congrArg Prod.snd (point_eq c n (Nat.lt_of_succ_lt hn))

end Scratch

variable (m : (ℓ : Loc nD τ sig) → Buf (Elt Ideal) ℓ)

/-- The scale of step `t` in lane `d`, as a function of the arguments. -/
def scaleOf (c : Dev nD) (d : Fin 128) (t : Fin 50) : EReal :=
  mix (fun l => logits m c (ix2 t l)) (fun l => scales m c (ix2 l d))
/-- The offset of step `t` in lane `d`. -/
def offsetOf (c : Dev nD) (d : Fin 128) (t : Fin 50) : EReal :=
  mix (fun l => logits m c (ix2 t l)) (fun l => offsets m c (ix2 l d))
/-- The shift of step `t` in lane `d`. -/
def shiftOf (c : Dev nD) (d : Fin 128) (t : Fin 50) : EReal := shifts m c (ix2 t d)

/-- The result array as a function of the arguments: at row `r`, lane `d` the kernel's 50 steps from state `(r, d)`. -/
def result (c : Dev nD) : Vec Ideal S16384x128 .f32 := fun j =>
  folded (scaleOf m c (j 1)) (fun t => shiftOf m c (j 1) t * scaleOf m c (j 1) t + offsetOf m c (j 1) t)
    (states m c j) 50 (le_refl 50)

/-- The block a grid point computes, at row `r` and lane `d`. -/
theorem block_folded (c : Dev nD) (x : Vec Ideal S2048x128 .f32) (r : Fin 2048) (d : Fin 128) :
    blockOut (scaleRows m c) (constRows m c) x (ix2 r d)
      = folded (scaleOf m c d) (fun t => shiftOf m c d t * scaleOf m c d t + offsetOf m c d t) (x (ix2 r d)) 50
          (le_refl 50) := by
  have hs : (fun t => scaleRows m c (ix2 t d)) = scaleOf m c d := funext fun t => scale_at _ _ t d
  have hc : (fun t => constRows m c (ix2 t d)) = fun t => shiftOf m c d t * scaleOf m c d t + offsetOf m c d t :=
    funext fun t => const_at _ _ _ _ t d
  rw [block_at, hs, hc]

/-- The lane of a block's entry is its lane in the array. -/
theorem lane (t : Fin cfg0.N) (y : S2048x128.Idx) : (win0_5.blk t).view.emb y 1 = y 1 := by
  apply Fin.ext; blk_simp [idx t]

/-- The states' block at an entry is the state at the place where the result's entry is written. -/
theorem state_at (c : Dev nD) (t : Fin cfg0.N) (y : S2048x128.Idx) :
    iblk m c 4 t y = states m c ((win0_5.blk t).view.emb y) := by
  blk_ext [iblk, V, states, idx t]

/-- The kernel's result array after the run. -/
theorem result_eq (c : Dev nD) : (dats m 0 c).arrAt 5 (cfgs 0).N = result m c := by
  refine (dats m 0 c).arrAt_eq_of_covers 5 _ (by decide +kernel) fun t hf y => ?_
  blk_simp
  rw [after0_5, point_eq m c t.val t.isLt]
  have hl := lane t y
  have hs := state_at m c t y
  unfold result
  rw [hl, ← hs]
  idx_vars y
  exact block_folded m c _ _ _

end Cert.KernelIdeal.Block

end
-- ==== Proof.RefStep.lean ====
/-
  What one trip of the reference's loop computes from any contents of the carried buffers whose counter holds `k < 50`:
  the row of logits it reads, that row's softmax weights, the new states, and the table of logits it writes back.
-/
module

public import proofs.«01_k».proof.Proof.Weights
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Step

open Cert.ReferenceIdeal Cert.ReferenceIdeal.Gen Cert.ReferenceIdeal.Value
open Idealize.ShloMosaic Idealize.ShloMosaic.TcCoe Idealize.SL.Sem Idealize.ShloMosaic.StableHlo
open Cert.Proof.Weights
open Facts

/-- A counter below 50 read as a signed integer. -/
theorem toInt_counter {k : ℕ} (hk : k < 50) : (BitVec.ofNat 32 k).toInt = k := by
  rw [BitVec.toInt_ofNat']
  simp only [Int.bmod]
  omega

/-- A dynamic slice of one whole row of a table of 50 rows, started at row `k` and lane 0, is row `k`. -/
theorem row_slice {α : Type} {n : ℕ} (x : (⟨2, ![50, n]⟩ : Shape).Idx → α) (start : Fin 2 → Int)
    (h : (⟨2, ![50, n]⟩ : Shape).Slices (fun _ => 0) ⟨2, ![1, n]⟩) {k : ℕ} (hk : k < 50) (h0 : start 0 = k)
    (h1 : start 1 = 0) (u : Fin 1) (l : Fin n) :
    Host.dynamicSlice ⟨2, ![1, n]⟩ x start h (ix2 u l) = x (ix2 ⟨k, hk⟩ l) := by
  have e0 := Host.clampedStart_of_le (s := ⟨2, ![50, n]⟩) (t := ⟨2, ![1, n]⟩) h.1 start 0 k h0
    (by show k + 1 ≤ 50; omega)
  have e1 := Host.clampedStart_of_le (s := ⟨2, ![50, n]⟩) (t := ⟨2, ![1, n]⟩) h.1 start 1 0 h1
    (by show 0 + n ≤ n; omega)
  rw [Host.dynamicSlice_apply]
  refine congrArg x (funext fun a => Fin.ext ?_)
  match a with
  | ⟨0, _⟩ => show Host.clampedStart ⟨2, ![50, n]⟩ ⟨2, ![1, n]⟩ h.1 start 0 + u.val = k; omega
  | ⟨1, _⟩ => show Host.clampedStart ⟨2, ![50, n]⟩ ⟨2, ![1, n]⟩ h.1 start 1 + l.val = l.val; omega

/-- A dynamic update of one whole row of a table of 50 rows, started at row `k` and lane 0, replaces row `k`. -/
theorem row_update {α : Type} {n : ℕ} (x : (⟨2, ![50, n]⟩ : Shape).Idx → α) (y : (⟨2, ![1, n]⟩ : Shape).Idx → α)
    (start : Fin 2 → Int) (h : (⟨2, ![50, n]⟩ : Shape).Slices (fun _ => 0) ⟨2, ![1, n]⟩) {k : ℕ} (hk : k < 50)
    (h0 : start 0 = k) (h1 : start 1 = 0) (t : Fin 50) (l : Fin n) :
    Host.dynamicUpdateSlice x y start h (ix2 t l) = if t.val = k then y (ix2 0 l) else x (ix2 t l) := by
  have e0 := Host.clampedStart_of_le (s := ⟨2, ![50, n]⟩) (t := ⟨2, ![1, n]⟩) h.1 start 0 k h0
    (by show k + 1 ≤ 50; omega)
  have e1 := Host.clampedStart_of_le (s := ⟨2, ![50, n]⟩) (t := ⟨2, ![1, n]⟩) h.1 start 1 0 h1
    (by show 0 + n ≤ n; omega)
  rw [Host.dynamicUpdateSlice_apply]
  by_cases ht : t.val = k
  · rw [if_pos ht, dif_pos]
    · refine congrArg y (funext fun a => Fin.ext ?_)
      match a with
      | ⟨0, _⟩ => show t.val - Host.clampedStart ⟨2, ![50, n]⟩ ⟨2, ![1, n]⟩ h.1 start 0 = 0; omega
      | ⟨1, _⟩ => show l.val - Host.clampedStart ⟨2, ![50, n]⟩ ⟨2, ![1, n]⟩ h.1 start 1 = l.val; omega
    · intro a
      match a with
      | ⟨0, _⟩ =>
        show Host.clampedStart ⟨2, ![50, n]⟩ ⟨2, ![1, n]⟩ h.1 start 0 ≤ t.val ∧ t.val < Host.clampedStart ⟨2, ![50, n]⟩ ⟨2, ![1, n]⟩ h.1 start 0 + 1
        omega
      | ⟨1, _⟩ =>
        show Host.clampedStart ⟨2, ![50, n]⟩ ⟨2, ![1, n]⟩ h.1 start 1 ≤ l.val ∧ l.val < Host.clampedStart ⟨2, ![50, n]⟩ ⟨2, ![1, n]⟩ h.1 start 1 + n
        omega
  · rw [if_neg ht, dif_neg]
    intro hin
    have := hin 0
    change Host.clampedStart ⟨2, ![50, n]⟩ ⟨2, ![1, n]⟩ h.1 start 0 ≤ t.val ∧ t.val < Host.clampedStart ⟨2, ![50, n]⟩ ⟨2, ![1, n]⟩ h.1 start 0 + 1 at this
    omega

/-- The softmax weights of one row of logits, as the reference computes them. -/
def softmaxRow (p : FVec Ideal S16 .f32) : FVec Ideal S16 .f32 :=
  have e : FVec Ideal S16 .f32 := Host.exp (subf p (broadcastInDim S16 ![0] bcast_S1_S16_0 (broadcastInDim S1 ![] bcast_S_S1
    (maximumf (constant S_ .f32 0xFF800000#32)
      (Host.reduce FloatOps.maximumf p (constant S_ .f32 0xFF800000#32) reducesTo_S16_S_d0 h_S_)))))
  Host.divf e (broadcastInDim S16 ![0] bcast_S1_S16_0 (broadcastInDim S1 ![] bcast_S_S1
    (Host.reduceAdd e (constant S_ .f32 0x00000000#32) reducesTo_S16_S_d0 h_S_)))

/-- They are the weights `share`. -/
theorem softmaxRow_at (p : FVec Ideal S16 .f32) (l : Fin 16) : softmaxRow p (ix1 l) = share (fun l => p (ix1 l)) l := by
  pointwise [softmaxRow]
  rfl

/-- A table's rows mixed by weights, as the reference computes it. -/
theorem mixed_at (p : FVec Ideal S16 .f32) (T : FVec Ideal S16x128 .f32) (d : Fin 128) :
    (Host.dotGeneral dot_S16_S16x128_S128_0_0_n_1_n_n none (softmaxRow p) T : FVec Ideal S128 .f32) (ix1 d)
      = mix (fun l => p (ix1 l)) (fun l => T (ix2 l d)) := by
  have h : (Host.dotGeneral dot_S16_S16x128_S128_0_0_n_1_n_n none (softmaxRow p) T : FVec Ideal S128 .f32) (ix1 d)
      = ∑ l, softmaxRow p (ix1 l) * T (ix2 l d) := by pointwise []
  rw [h]
  exact Finset.sum_congr rfl fun l _ => by rw [softmaxRow_at]

section Trip

variable (V : Valuation τ sig (Elt Ideal)) (e : FVec Ideal S50x128 .f32) (p : FVec Ideal S50x16 .f32)
  (W B : FVec Ideal S16x128 .f32) (x : FVec Ideal S16384x128 .f32) (z : FVec Ideal S50x16 .f32)

/-- The row of logits a trip reads is the counter's. -/
theorem row_at {k : ℕ} (hk : k < 50) (hp : V (Proc.devRef .tc main_v3_1) = p)
    (hc : V (Proc.devRef .tc main_v3_4) = fun _ => BitVec.ofNat 32 k) (l : Fin 16) :
    (res_main_while0b_v5 V : FVec Ideal S16 .f32) (ix1 l) = p (ix2 ⟨k, hk⟩ l) := by
  unfold res_main_while0b_v5
  rw [hp, hc]
  have h : ∀ y : FVec Ideal S1x16 .f32, shapeCast S16 y shapeCasts_S1x16_S16 (ix1 l) = y (ix2 0 l) := fun y => by
    pointwise []
  refine (h _).trans (row_slice p _ _ hk ?_ ?_ 0 l)
  · exact toInt_counter hk
  · rfl

/-- The softmax weights a trip computes are those of the row it reads. -/
theorem weights_eq : (res_main_while0b_v15 V : FVec Ideal S16 .f32) = softmaxRow (res_main_while0b_v5 V) := by
  unfold res_main_while0b_v15 res_main_while0b_v11
  rfl

/-- The new states of a trip. -/
theorem states_at {k : ℕ} (hk : k < 50) (he : V (Proc.devRef .tc main_v3_0) = e)
    (hp : V (Proc.devRef .tc main_v3_1) = p) (hW : V (Proc.devRef .tc main_v3_2) = W)
    (hB : V (Proc.devRef .tc main_v3_3) = B) (hc : V (Proc.devRef .tc main_v3_4) = fun _ => BitVec.ofNat 32 k)
    (hx : V (Proc.devRef .tc main_v3_5) = x) (r : Fin 16384) (d : Fin 128) :
    (step_main_v3_5 V : FVec Ideal S16384x128 .f32) (ix2 r d)
      = Ideal.tanh ((x (ix2 r d) + e (ix2 ⟨k, hk⟩ d))
          * mix (fun l => p (ix2 ⟨k, hk⟩ l)) (fun l => W (ix2 l d))
        + mix (fun l => p (ix2 ⟨k, hk⟩ l)) (fun l => B (ix2 l d))) := by
  have hr := row_at V p hk hp hc
  have hs : ∀ (y : FVec Ideal S1x128 .f32), shapeCast S128 y shapeCasts_S1x128_S128 (ix1 d) = y (ix2 0 d) := fun y => by
    pointwise []
  have hb : ∀ (y : FVec Ideal S128 .f32), broadcastInDim S16384x128 ![0, 1] bcast_S1x128_S16384x128_0_1
      (broadcastInDim S1x128 ![1] bcast_S128_S1x128_1 y) (ix2 r d) = y (ix1 d) := fun y => by pointwise []
  unfold step_main_v3_5
  rw [he, hW, hB, hc, hx, weights_eq]
  generalize (res_main_while0b_v5 V : FVec Ideal S16 .f32) = q at hr
  have hq : (fun l => q (ix1 l)) = fun l => p (ix2 ⟨k, hk⟩ l) := funext hr
  refine congrArg Ideal.tanh (congrArg₂ (· + ·) (congrArg₂ (· * ·) (congrArg₂ (· + ·) rfl ?_) ?_) ?_)
  · refine (hb _).trans ((hs _).trans (row_slice e _ _ hk ?_ ?_ 0 d))
    · exact toInt_counter hk
    · rfl
  · exact (hb _).trans ((mixed_at q W d).trans (by rw [hq]))
  · exact (hb _).trans ((mixed_at q B d).trans (by rw [hq]))

/-- The table of logits a trip writes back: the row it read, in its place. -/
theorem written_at {k : ℕ} (hk : k < 50) (hp : V (Proc.devRef .tc main_v3_1) = p)
    (hc : V (Proc.devRef .tc main_v3_4) = fun _ => BitVec.ofNat 32 k)
    (hz : V (Proc.devRef .tc main_v3_6) = z) (t : Fin 50) (l : Fin 16) :
    (step_main_v3_6 V : FVec Ideal S50x16 .f32) (ix2 t l) = if t.val = k then p (ix2 t l) else z (ix2 t l) := by
  have hr := row_at V p hk hp hc l
  have hb : ∀ (y : FVec Ideal S16 .f32), broadcastInDim S1x16 ![1] bcast_S16_S1x16_1 y (ix2 0 l) = y (ix1 l) := fun y => by
    pointwise []
  unfold step_main_v3_6
  rw [hz, hc]
  generalize (res_main_while0b_v5 V : FVec Ideal S16 .f32) = q at hr
  refine (row_update z _ _ _ hk ?_ ?_ t l).trans ?_
  · exact toInt_counter hk
  · rfl
  · by_cases ht : t.val = k
    · rw [if_pos ht, if_pos ht, hb, hr]
      exact congrArg p (congrArg (fun t => ix2 t l) (Fin.ext ht.symm))
    · rw [if_neg ht, if_neg ht]

/-- The counter goes up by one. -/
theorem counter_step {k : ℕ} (hc : V (Proc.devRef .tc main_v3_4) = fun _ => BitVec.ofNat 32 k) :
    (step_main_v3_4 V : IVec S_ 32) = fun _ => BitVec.ofNat 32 (k + 1) := by
  unfold step_main_v3_4
  rw [hc]
  funext _
  show BitVec.ofNat 32 k + 1#32 = _
  rw [BitVec.ofNat_add]

end Trip

end Cert.ReferenceIdeal.Step

end
-- ==== Proof.RefEntry.lean ====
/-
  What the reference's loop starts from: the carried copies of the arguments, the counter at zero, and the table of
  shifts gathered by the row numbers `0, 1, …, 49`, which is the table itself.
-/
module

public import proofs.«01_k».proof.Proof.Gen.ReferenceIdeal.Run
public import Idealize.ShloMosaic.Lib.Pointwise
public import Idealize.ShloMosaic.Lib.ReduceAll
public import Idealize.ShloMosaic.Lib.Routing.Ops
public import Idealize.ShloMosaic.Lib.Pipeline.ValueKit

@[expose] public section

set_option maxRecDepth 16384

noncomputable section

namespace Cert.ReferenceIdeal.Entry

open Cert.ReferenceIdeal Cert.ReferenceIdeal.Gen Cert.ReferenceIdeal.Value
open Idealize.ShloMosaic Idealize.ShloMosaic.TcCoe Idealize.SL.Sem Idealize.ShloMosaic.StableHlo
open Facts

/-- The row numbers the reference takes, as the column of start indices of its gather: `0, 1, …, 49`, a negative one
    moved up by 50. -/
def starts : IVec S50x1 32 :=
  broadcastInDim S50x1 ![0] bcast_S50_S50x1_0
    (select (cmpi .slt (iotaInDim S50 32 0) (broadcastInDim S50 ![] bcast_S_S50 (constantI S_ 32 0#32)))
      (addi (iotaInDim S50 32 0) (broadcastInDim S50 ![] bcast_S_S50 (constantI S_ 32 50#32))) (iotaInDim S50 32 0))

/-- Whether each row number is one of the table's. -/
def inRange : IVec S50 1 :=
  Host.reduce IntOp.andi
    (andi (cmpi .sge starts (broadcastInDim S50x1 ![] bcast_S_S50x1 (constantI S_ 32 0#32)))
      (cmpi .sle starts (broadcastInDim S50x1 ![0, 1] bcast_S1x1_S50x1_0_1
        (broadcastInDim S1x1 ![1] bcast_S1_S1x1_1 (constantI S1 32 49#32)))))
    (constantI S_ 1 1#1) reducesTo_S50x1_S50_d1 h_S_

/-- The rows of a table taken at those row numbers, a row out of range replaced by a constant. -/
def taken (e : Vec Ideal S50x128 .f32) : Vec Ideal S50x128 .f32 :=
  select (broadcastInDim S50x128 ![0] bcast_S50_S50x128_0 inRange)
    (Host.gather gather_S50x128_S50x1_S50x128_1_0_n_n_0_1_1128 e starts)
    (broadcastInDim S50x128 ![] bcast_S_S50x128 (constant (F := Ideal) S_ .f32 0x7FC00000#32))

/-- Start index `t` is `t`. -/
theorem starts_at : ∀ (t : Fin 50) (u : Fin 1), starts (ix2 t u) = BitVec.ofNat 32 t.val := by
  decide +kernel

/-- Every row number is in range. -/
theorem inRange_at (j : S50.Idx) : inRange j = 1#1 := by
  refine Host.reduce_andi_one _ _ _ _ _ rfl fun i => ?_
  obtain ⟨t, u, rfl⟩ : ∃ (t : Fin 50) (u : Fin 1), i = ix2 t u := ⟨i 0, i 1, by idx_vars i⟩
  revert t u
  decide +kernel

/-- Taking rows `0, 1, …, 49` of the table gives the table. -/
theorem taken_eq (e : Vec Ideal S50x128 .f32) : taken e = e := by
  funext j
  idx_vars j
  pointwise [taken]
  rw [inRange_at]
  exact Routing.gather_row _ rfl rfl rfl rfl rfl e starts j0 j1 j0 (starts_at j0 0) (by decide)

variable (m : (ℓ : Loc nD τ sig) → Buf (Elt Ideal) ℓ) (c : Dev nD)

/-- The carried logits are argument 1. -/
theorem logits_entry : entryContents preI m c (Proc.devRef .tc main_v3_1) = m ((c.tc : Thread nD τ).loc main_arg1) := by
  simp only [entryContents, afterL_cons, afterL_nil]
  after_reads_simp
  rfl

/-- The carried scale table is argument 3. -/
theorem scales_entry : entryContents preI m c (Proc.devRef .tc main_v3_2) = m ((c.tc : Thread nD τ).loc main_arg3) := by
  simp only [entryContents, afterL_cons, afterL_nil]
  after_reads_simp
  rfl

/-- The carried offset table is argument 4. -/
theorem offsets_entry : entryContents preI m c (Proc.devRef .tc main_v3_3) = m ((c.tc : Thread nD τ).loc main_arg4) := by
  simp only [entryContents, afterL_cons, afterL_nil]
  after_reads_simp
  rfl

/-- The first states are argument 0. -/
theorem states_entry : entryContents preI m c (Proc.devRef .tc main_v3_5) = m ((c.tc : Thread nD τ).loc main_arg0) := by
  simp only [entryContents, afterL_cons, afterL_nil]
  after_reads_simp
  rfl

/-- The carried shifts are argument 2. -/
theorem shifts_entry : entryContents preI m c (Proc.devRef .tc main_v3_0) = m ((c.tc : Thread nD τ).loc main_arg2) := by
  simp only [entryContents, afterL_cons, afterL_nil]
  after_reads_simp
  exact taken_eq _

end Cert.ReferenceIdeal.Entry

end
-- ==== Proof.RefRun.lean ====
/-
  What the reference's loop leaves after its 50 trips. After `k` trips the counter is `k`, every state is the recurrence
  `stepped` after `k` steps, and the first `k` rows of the table it writes are rows of the logits (`inv`).
-/
module

public import proofs.«01_k».proof.Proof.RefStep
public import proofs.«01_k».proof.Proof.RefEntry

@[expose] public section

set_option maxRecDepth 16384

noncomputable section

namespace Cert.ReferenceIdeal.Loop

open Cert.ReferenceIdeal Cert.ReferenceIdeal.Gen Cert.ReferenceIdeal.Value
open Idealize.ShloMosaic Idealize.ShloMosaic.TcCoe Idealize.SL.Sem Idealize.ShloMosaic.StableHlo
open Cert.Proof.Weights

variable (x : FVec Ideal S16384x128 .f32) (p : FVec Ideal S50x16 .f32) (e : FVec Ideal S50x128 .f32)
  (W B : FVec Ideal S16x128 .f32)

/-- A table mixed by the weights of row `t` of the logits, in lane `d`. -/
def mixed (T : FVec Ideal S16x128 .f32) (d : Fin 128) (t : Fin 50) : EReal :=
  mix (fun l => p (ix2 t l)) (fun l => T (ix2 l d))

/-- The state at row `r`, lane `d` after `k` trips. -/
def stateAfter (k : ℕ) (hk : k ≤ 50) (r : Fin 16384) (d : Fin 128) : EReal :=
  stepped (fun t => e (ix2 t d)) (mixed p W d) (mixed p B d) (x (ix2 r d)) k hk

/-- What the carried buffers hold after `k` trips. -/
structure Inv (V : Valuation τ sig (Elt Ideal)) (k : ℕ) (hk : k ≤ 50) : Prop where
  shifts : V (Proc.devRef .tc main_v3_0) = e
  logits : V (Proc.devRef .tc main_v3_1) = p
  scales : V (Proc.devRef .tc main_v3_2) = W
  offsets : V (Proc.devRef .tc main_v3_3) = B
  counter : V (Proc.devRef .tc main_v3_4) = fun _ => BitVec.ofNat 32 k
  states : ∀ (r : Fin 16384) (d : Fin 128),
    (V (Proc.devRef .tc main_v3_5) : FVec Ideal S16384x128 .f32) (ix2 r d) = stateAfter x p e W B k hk r d
  written : ∀ (t : Fin 50) (l : Fin 16), t.val < k →
    (V (Proc.devRef .tc main_v3_6) : FVec Ideal S50x16 .f32) (ix2 t l) = p (ix2 t l)

/-- One trip takes the buffers from `k` trips to `k + 1`. -/
theorem Inv.next {V : Valuation τ sig (Elt Ideal)} {k : ℕ} (hk : k + 1 ≤ 50)
    (h : Inv x p e W B V k (Nat.le_of_succ_le hk)) : Inv x p e W B (STEP V) (k + 1) hk where
  shifts := (STEP_main_v3_0 V).trans h.shifts
  logits := (STEP_main_v3_1 V).trans h.logits
  scales := (STEP_main_v3_2 V).trans h.scales
  offsets := (STEP_main_v3_3 V).trans h.offsets
  counter := (STEP_main_v3_4 V).trans (Step.counter_step V h.counter)
  states r d := by
    rw [STEP_main_v3_5]
    refine (Step.states_at V e p W B _ hk h.shifts h.logits h.scales h.offsets h.counter rfl r d).trans ?_
    rw [h.states r d]
    rfl
  written t l ht := by
    rw [STEP_main_v3_6]
    refine (Step.written_at V p _ hk h.logits h.counter rfl t l).trans ?_
    split
    · rfl
    · exact h.written t l (by omega)

variable (m : (ℓ : Loc nD τ sig) → Buf (Elt Ideal) ℓ) (c : Dev nD)

/-- After `k` trips from the loop's entry. -/
theorem inv (hx : m ((c.tc : Thread nD τ).loc main_arg0) = x) (hp : m ((c.tc : Thread nD τ).loc main_arg1) = p)
    (he : m ((c.tc : Thread nD τ).loc main_arg2) = e) (hW : m ((c.tc : Thread nD τ).loc main_arg3) = W)
    (hB : m ((c.tc : Thread nD τ).loc main_arg4) = B) : ∀ (k : ℕ) (hk : k ≤ 50),
    Inv x p e W B (STEP^[k] (entryContents preI m c)) k hk
  | 0, hk =>
    { shifts := (Entry.shifts_entry m c).trans he
      logits := (Entry.logits_entry m c).trans hp
      scales := (Entry.scales_entry m c).trans hW
      offsets := (Entry.offsets_entry m c).trans hB
      counter := ctr_entry m c
      states := fun r d => congrFun ((Entry.states_entry m c).trans hx) (ix2 r d)
      written := fun _ _ h => absurd h (Nat.not_lt_zero _) }
  | k + 1, hk => by
    rw [Function.iterate_succ_apply']
    exact Inv.next x p e W B hk (inv hx hp he hW hB k _)

/-- The states after the loop. -/
theorem states_final (hx : m ((c.tc : Thread nD τ).loc main_arg0) = x)
    (hp : m ((c.tc : Thread nD τ).loc main_arg1) = p) (he : m ((c.tc : Thread nD τ).loc main_arg2) = e)
    (hW : m ((c.tc : Thread nD τ).loc main_arg3) = W) (hB : m ((c.tc : Thread nD τ).loc main_arg4) = B)
    (r : Fin 16384) (d : Fin 128) :
    ((STEP^[50] (entryContents preI m c)) (Proc.devRef .tc main_v3_5) : FVec Ideal S16384x128 .f32) (ix2 r d)
      = stateAfter x p e W B 50 (le_refl 50) r d :=
  (inv x p e W B m c hx hp he hW hB 50 (le_refl 50)).states r d

/-- The table of logits written by the loop is the argument. -/
theorem written_final :
    (STEP^[50] (entryContents preI m c)) (Proc.devRef .tc main_v3_6) = m ((c.tc : Thread nD τ).loc main_arg1) := by
  funext j
  idx_vars j
  exact (inv _ _ _ _ _ m c rfl rfl rfl rfl rfl 50 (le_refl 50)).written _ _ (Fin.isLt _)

end Cert.ReferenceIdeal.Loop

end
-- ==== Proof.Equation.lean ====
/-
  The kernel's result array is the reference's, where the scales and each row's largest logit are real numbers
  and of a state and its first shift one is: there `(x + e) * w + b = x * w + (e * w + b)`, step by step.
-/
module

public import proofs.«01_k».proof.Proof.KernelArray
public import proofs.«01_k».proof.Proof.RefRun

@[expose] public section

set_option maxRecDepth 16384

noncomputable section

namespace Cert.Proof.Equation

open Idealize.ShloMosaic Idealize.ShloMosaic.TcCoe Idealize.SL.Sem Idealize.ShloMosaic.StableHlo
open Cert.Proof.Weights Cert.KernelIdeal.Block

/-- From equal arguments, with real scales, a real largest logit in each row, and of each state and its first shift
    one real, the reference's loop ends with the kernel's result. -/
theorem states_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hx : ∀ r d, IsReal (states m c (ix2 r d)) ∨ IsReal (shifts m c (ix2 0 d)))
    (hp : ∀ t, RealPeak fun l => logits m c (ix2 t l)) (hW : ∀ i, IsReal (scales m c i))
    (h0 : m' ((c.tc : Thread Cert.ReferenceIdeal.nD Cert.ReferenceIdeal.τ).loc Cert.ReferenceIdeal.main_arg0) = states m c)
    (h1 : m' ((c.tc : Thread Cert.ReferenceIdeal.nD Cert.ReferenceIdeal.τ).loc Cert.ReferenceIdeal.main_arg1) = logits m c)
    (h2 : m' ((c.tc : Thread Cert.ReferenceIdeal.nD Cert.ReferenceIdeal.τ).loc Cert.ReferenceIdeal.main_arg2) = shifts m c)
    (h3 : m' ((c.tc : Thread Cert.ReferenceIdeal.nD Cert.ReferenceIdeal.τ).loc Cert.ReferenceIdeal.main_arg3) = scales m c)
    (h4 : m' ((c.tc : Thread Cert.ReferenceIdeal.nD Cert.ReferenceIdeal.τ).loc Cert.ReferenceIdeal.main_arg4) = offsets m c) :
    (Cert.ReferenceIdeal.Value.STEP^[50] (entryContents Cert.ReferenceIdeal.Value.preI m' c))
      (Proc.devRef .tc Cert.ReferenceIdeal.main_v3_5) = result m c := by
  funext j
  idx_vars j
  refine (Cert.ReferenceIdeal.Loop.states_final _ _ _ _ _ m' c h0 h1 h2 h3 h4 _ _).trans ?_
  exact (folded_eq_stepped _ _ _ (hx _ _) (fun t => mix_real (hp t) (fun l => hW _)) 50 (le_refl 50)).symm

end Cert.Proof.Equation

end
-- ==== Proof.lean ====
/-
  The five claims. The frames are the generated runs'; the kernel's value claim joins what its array holds
  (Proof/KernelArray.lean), what the reference's loop leaves (Proof/RefRun.lean) and their equality where the
  precondition holds (Proof/Finite.lean, Proof/Equation.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Finite
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Kernel

/-- The reference runs, keeps its arguments and leaves every semaphore counter at zero: it has no semaphore. -/
theorem reference_frame : Cert.quiescent_ReferenceIdeal (hReferenceIdeal := Cert.ReferenceIdeal.Gen.facts) :=
  fun m g _ => (θ_run _ _ _).mono
    (fun r h => ⟨fun c => (h c).2.2, Idealize.ShloMosaic.sem_eq_zero_of_no_sems (by decide) r.2⟩)
    (Cert.ReferenceIdeal.Value.run (F := Ideal) m g)

/-- From equal arguments that satisfy the precondition, kernel and reference end with equal states and with equal
    tables of logits. -/
theorem value : Cert.algebraic_KernelIdeal_ReferenceIdeal_pre_finite_inputs
    (hKernelIdeal := Cert.KernelIdeal.Gen.facts) (hReferenceIdeal := Cert.ReferenceIdeal.Gen.facts)
    (hPre_finite_inputs := Cert.Pre_finite_inputs.facts) := by
  intro m g m' g' hpre hargs
  refine ⟨fun c => Cert.KernelIdeal.Block.result m c,
    fun c => m ((c.tc : Thread Cert.KernelIdeal.nD Cert.KernelIdeal.τ).loc Cert.KernelIdeal.main_arg1), ?_, ?_⟩
  · refine (θ_run _ _ _).mono (fun r h c => ?_) (Cert.KernelIdeal.Value.run_blocks m g)
    obtain ⟨hv, k0, k1, k2, k3, k4⟩ := h c
    exact ⟨hv.trans (Cert.KernelIdeal.Block.result_eq m c), k1, k0, k1, k2, k3, k4⟩
  · refine (θ_run _ _ _).mono (fun r h c => ?_) (Cert.ReferenceIdeal.Value.run (F := Ideal) m' g')
    obtain ⟨hv, hw, k⟩ := h c
    obtain ⟨a0, a1, a2, a3, a4⟩ := hargs c
    haveI := Cert.Pre_finite_inputs.facts
    obtain ⟨hx, hp, hW⟩ := Cert.Pre_finite_inputs.real_args _ _ _ _ _ (hpre c)
    exact ⟨hv.trans (Equation.states_eq m m' c hx hp hW a0 a1 a2 a3 a4),
      hw.trans ((Cert.ReferenceIdeal.Loop.written_final m' c).trans a1), k⟩

/-- All five claims. -/
theorem claim : Cert.Claim :=
  ⟨Cert.Kernel.Gen.facts, Cert.KernelIdeal.Gen.facts, Cert.ReferenceIdeal.Gen.facts, Cert.Pre_finite_inputs.facts,
    fun m g _ => Cert.Kernel.Gen.frame m g, fun m g _ => Cert.KernelIdeal.Gen.frame m g,
    fun m g _ => Cert.KernelIdeal.Gen.frame m g, reference_frame, fun m g _ => reference_frame m g trivial,
    trivial, value⟩

end Cert.Proof

end
